-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4096x4096 : Shape := ⟨3, ![2, 4096, 4096]⟩
abbrev S4096x64 : Shape := ⟨2, ![4096, 64]⟩
abbrev S64 : Shape := ⟨1, ![64]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S2x4096x4096 .f32) (main_arg1 : FVec F S4096x64 .f32) (main_arg2 : FVec F S64 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S2x4096x4096 : Shape := ⟨3, ![2, 4096, 4096]⟩
abbrev S4096x64 : Shape := ⟨2, ![4096, 64]⟩
abbrev S64 : Shape := ⟨1, ![64]⟩
abbrev S8192x4096 : Shape := ⟨2, ![8192, 4096]⟩
abbrev S1x64 : Shape := ⟨2, ![1, 64]⟩
abbrev S8192x64 : Shape := ⟨2, ![8192, 64]⟩
abbrev S8192x8 : Shape := ⟨2, ![8192, 8]⟩
abbrev S512x4096 : Shape := ⟨2, ![512, 4096]⟩
abbrev S512x64 : Shape := ⟨2, ![512, 64]⟩
abbrev S512x8 : Shape := ⟨2, ![512, 8]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S2x4096x4096, .f32⟩
  | .hbm, ⟨1, _⟩ => ⟨S4096x64, .f32⟩
  | .hbm, ⟨2, _⟩ => ⟨S64, .f32⟩
  | .hbm, ⟨3, _⟩ => ⟨S8192x4096, .f32⟩
  | .hbm, ⟨4, _⟩ => ⟨S1x64, .f32⟩
  | .hbm, ⟨5, _⟩ => ⟨S8192x64, .f32⟩
  | .hbm, ⟨6, _⟩ => ⟨S8192x8, .i32⟩
  | .local _ .vmem, ⟨0, _⟩ => ⟨S512x4096, .f32⟩
  | .local _ .vmem, ⟨1, _⟩ => ⟨S512x4096, .f32⟩
  | .local _ .vmem, ⟨2, _⟩ => ⟨S4096x64, .f32⟩
  | .local _ .vmem, ⟨3, _⟩ => ⟨S1x64, .f32⟩
  | .local _ .vmem, ⟨4, _⟩ => ⟨S512x64, .f32⟩
  | .local _ .vmem, ⟨5, _⟩ => ⟨S512x64, .f32⟩
  | .local _ .vmem, ⟨6, _⟩ => ⟨S512x8, .i32⟩
  | .local _ .vmem, ⟨7, _⟩ => ⟨S512x8, .i32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x4096x4096 : Shape := ⟨3, ![2, 4096, 4096]⟩
abbrev S4096x64 : Shape := ⟨2, ![4096, 64]⟩
abbrev S64 : Shape := ⟨1, ![64]⟩
abbrev S8192x4096 : Shape := ⟨2, ![8192, 4096]⟩
abbrev S8192x64 : Shape := ⟨2, ![8192, 64]⟩
abbrev S1x64 : Shape := ⟨2, ![1, 64]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S8192x8x1 : Shape := ⟨3, ![8192, 8, 1]⟩
abbrev S8192x8x2 : Shape := ⟨3, ![8192, 8, 2]⟩

abbrev nBuf : Space → Nat
  | .hbm => 47
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x64, .f32⟩
  | .hbm, ⟨2, _⟩ => ⟨S64, .f32⟩
  | .hbm, ⟨3, _⟩ => ⟨S8192x4096, .f32⟩
  | .hbm, ⟨4, _⟩ => ⟨S8192x64, .f32⟩
  | .hbm, ⟨5, _⟩ => ⟨S1x64, .f32⟩
  | .hbm, ⟨6, _⟩ => ⟨S8192x64, .f32⟩
  | .hbm, ⟨7, _⟩ => ⟨S8192x64, .f32⟩
  | .hbm, ⟨8, _⟩ => ⟨S8192x8, .f32⟩
  | .hbm, ⟨9, _⟩ => ⟨S8192x8, .i32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x8, .f32⟩
  | .hbm, ⟨23, _⟩ => ⟨S8192x8, .f32⟩
  | .hbm, ⟨24, _⟩ => ⟨S_, .f32⟩
  | .hbm, ⟨25, _⟩ => ⟨S8192x64, .f32⟩
  | .hbm, ⟨26, _⟩ => ⟨S8192, .i32⟩
  | .hbm, ⟨27, _⟩ => ⟨S8192x1, .i32⟩
  | .hbm, ⟨28, _⟩ => ⟨S_, .i32⟩
  | .hbm, ⟨29, _⟩ => ⟨S8192x1, .i32⟩
  | .hbm, ⟨30, _⟩ => ⟨S8192x1, .i1⟩
  | .hbm, ⟨31, _⟩ => ⟨S_, .i32⟩
  | .hbm, ⟨32, _⟩ => ⟨S8192x1, .i32⟩
  | .hbm, ⟨33, _⟩ => ⟨S8192x1, .i32⟩
  | .hbm, ⟨34, _⟩ => ⟨S8192x1, .i32⟩
  | .hbm, ⟨35, _⟩ => ⟨S_, .i32⟩
  | .hbm, ⟨36, _⟩ => ⟨S8192x8, .i32⟩
  | .hbm, ⟨37, _⟩ => ⟨S8192x8, .i1⟩
  | .hbm, ⟨38, _⟩ => ⟨S_, .i32⟩
  | .hbm, ⟨39, _⟩ => ⟨S8192x8, .i32⟩
  | .hbm, ⟨40, _⟩ => ⟨S8192x8, .i32⟩
  | .hbm, ⟨41, _⟩ => ⟨S8192x8, .i32⟩
  | .hbm, ⟨42, _⟩ => ⟨S8192x8, .i32⟩
  | .hbm, ⟨43, _⟩ => ⟨S8192x8x1, .i32⟩
  | .hbm, ⟨44, _⟩ => ⟨S8192x8x1, .i32⟩
  | .hbm, ⟨45, _⟩ => ⟨S8192x8x2, .i32⟩
  | .hbm, ⟨46, _⟩ => ⟨S8192x64, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.Picks.lean ====
module

public import Idealize.ShloMosaic.PureOps
public import Idealize.ShloMosaic.Lib.SortFacts
public import Idealize.ShloMosaic.Lib.SortPrefix
public import Idealize.ShloMosaic.Lib.WordCmp
public import Idealize.ShloMosaic.Lib.Pointwise
public import Idealize.ShloMosaic.Lib.ScatterToDense.Spec
public import Mathlib.Data.EReal.Operations

/-! One row of the router, as plain mathematics: the order in which a stable sort, greatest first, lists the columns of a
row, and why picking the first greatest entry and overwriting it by minus infinity walks through that same order. -/

@[expose] public section

open Idealize.ShloMosaic

noncomputable section

namespace Cert.Router

variable {n : ℕ}

/-- `σ` lists all the columns of the row `x` once, greatest entry first and equal entries in column order. -/
structure Lists (x : Fin n → EReal) (σ : Fin n → Fin n) : Prop where
  inj : Function.Injective σ
  surj : Function.Surjective σ
  down : ∀ i j, i < j → x (σ j) ≤ x (σ i)
  tie : ∀ i j, i < j → x (σ j) = x (σ i) → σ i < σ j

/-! ## The stable sort lists a row -/

/-- On a list in ascending order the stable sort by a relation is the stable sort by a relation that agrees with it
wherever the first element is the later one. -/
theorem stableSort_ascending {ι : Type} [LT ι] (R R' : ι → ι → Bool) (l : List ι) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The order in which a stable sort by a relation lists positions depends only on how a later position compares with an
earlier one. -/
theorem sortedFrom_ascending (R R' : Fin n → Fin n → Bool) (h : ∀ a b, a < b → R b a = R' b a) :
    sortedFrom R = sortedFrom R' := by
  funext k
  unfold sortedFrom
  rw [List.get_of_eq (show sortPositions n R = sortPositions n R' from
    stableSort_ascending R R' _ (List.pairwise_lt_finRange n) h)]
  rfl

/-- The order that a stable sort by "greater" puts the columns of a row in lists the row. -/
theorem lists_sortedFrom (x : Fin n → EReal) : Lists x (sortedFrom fun k k' => decide (x k' < x k)) := by
  classical
  have hB := StrictTotalBefore.of_key_then_position (n := n) (fun a b : EReal => decide (b < a)) x
    (fun a => decide_eq_false (lt_irrefl a)) (fun a b c h h' => decide_eq_true ((of_decide_eq_true h').trans (of_decide_eq_true h)))
    (fun a b => (lt_trichotomy b a).imp decide_eq_true (Or.imp Eq.symm decide_eq_true))
  have e : sortedFrom (fun k k' => decide (x k' < x k))
      = sortedFrom fun k k' : Fin n => decide (x k' < x k) || (decide (x k = x k') && decide (k < k')) := by
    refine sortedFrom_ascending _ _ fun a b hab => ?_
    rw [decide_eq_false (not_lt_of_gt hab), Bool.and_false, Bool.or_false]
  rw [e]
  have ord : ∀ i j : Fin n, i < j → _ := sortedFrom_noInversion _ _ hB.asymm (fun _ _ h => h) hB.negTrans
  refine ⟨sortedFrom_injective _, sortedFrom_surjective _, fun i j hij => ?_, fun i j hij he => ?_⟩
  · have := ord i j hij
    simp only [Bool.or_eq_false_iff, decide_eq_false_iff_not, not_lt] at this
    exact this.1
  · have := ord i j hij
    simp only [Bool.or_eq_false_iff, Bool.and_eq_false_iff, decide_eq_false_iff_not, not_lt] at this
    rcases this.2 with h | h
    · exact absurd he h
    · exact lt_of_le_of_ne h fun h' => absurd (sortedFrom_injective _ h') hij.ne

/-! ## A fold that meets its own bound -/

/-- Folding an operation over all positions gives `v` when `v` is among the entries and the operation on `v` and any
entry, or the start, gives `v`. -/
theorem fold_eq_of_bound {α : Type} (op : α → α → α) [Std.Commutative op] [Std.Associative op] (b v : α) (f : Fin n → α)
    (i : Fin n) (hi : f i = v) (hb : op v b = v) (h : ∀ c, op v (f c) = v) : Finset.fold op b f Finset.univ = v := by
  classical
  have key : ∀ s : Finset (Fin n), op v (Finset.fold op b f s) = v := fun s => by
    induction s using Finset.induction_on with
    | empty => simpa using hb
    | insert a s ha ih => rw [Finset.fold_insert ha, ← Std.Associative.assoc (op := op), h, ih]
  rw [← Finset.insert_erase (Finset.mem_univ i), Finset.fold_insert (Finset.notMem_erase i _), hi]
  exact key _

/-! ## Picking and masking follows the list -/

/-- The row `w` is `x` with the first `k` listed columns overwritten by minus infinity. -/
def Masked (x : Fin n → EReal) (σ : Fin n → Fin n) (k : ℕ) (w : Fin n → EReal) : Prop :=
  ∀ c, (∃ j : Fin n, j.val < k ∧ σ j = c ∧ w c = ⊥) ∨ (∃ j : Fin n, k ≤ j.val ∧ σ j = c ∧ w c = x c)

variable {x : Fin n → EReal} {σ : Fin n → Fin n} {w : Fin n → EReal}

/-- The row itself has nothing overwritten. -/
theorem masked_zero (hσ : Lists x σ) : Masked x σ 0 x := fun c =>
  let ⟨j, hj⟩ := hσ.surj c
  .inr ⟨j, Nat.zero_le _, hj, rfl⟩

/-- The next listed column is not overwritten yet. -/
theorem Masked.at_next (hσ : Lists x σ) {k : Fin n} (hw : Masked x σ k.val w) : w (σ k) = x (σ k) := by
  rcases hw (σ k) with ⟨j, hj, e, -⟩ | ⟨j, -, -, h⟩
  · exact absurd (congrArg Fin.val (hσ.inj e)) hj.ne
  · exact h

/-- No entry of the masked row exceeds the entry at the next listed column. -/
theorem Masked.le_next (hσ : Lists x σ) {k : Fin n} (hw : Masked x σ k.val w) (c : Fin n) : w c ≤ x (σ k) := by
  rcases hw c with ⟨j, -, -, h⟩ | ⟨j, hj, rfl, h⟩
  · rw [h]; exact bot_le
  · rw [h]
    rcases eq_or_lt_of_le hj with e | e
    · rw [Fin.ext e]
    · exact hσ.down k j e

/-- The greatest entry of the masked row is the entry at the next listed column. -/
theorem Masked.fold_max (hσ : Lists x σ) {k : Fin n} (hw : Masked x σ k.val w) :
    Finset.fold max ⊥ w Finset.univ = x (σ k) :=
  fold_eq_of_bound max ⊥ _ w (σ k) (hw.at_next hσ) (max_bot_right _) fun c => max_eq_left (hw.le_next hσ c)

/-- Where the masked row attains its greatest entry, the column is not before the next listed one. -/
theorem Masked.next_le (hσ : Lists x σ) (hx : ∀ c, x c ≠ ⊥) {k : Fin n} (hw : Masked x σ k.val w) {c : Fin n}
    (h : w c = x (σ k)) : σ k ≤ c := by
  rcases hw c with ⟨j, -, -, h'⟩ | ⟨j, hj, rfl, h'⟩
  · exact absurd (h.symm.trans h') (hx _)
  · rcases eq_or_lt_of_le hj with e | e
    · rw [Fin.ext e]
    · exact (hσ.tie k j e (h'.symm.trans h)).le

/-- Of two small words the lesser is the word of the lesser number. -/
theorem minsi_ofNat {a b : ℕ} (h : a ≤ b) (hb : b < 2 ^ 31) :
    IntOp.minsi (BitVec.ofNat 32 a) (BitVec.ofNat 32 b) = BitVec.ofNat 32 a := by
  unfold IntOp.minsi
  rcases eq_or_lt_of_le h with rfl | h'
  · simp
  · rw [if_pos]
    have ha : (BitVec.ofNat 32 a).toInt = a := by
      rw [BitVec.toInt_eq_toNat_of_lt] <;> rw [BitVec.toNat_ofNat, Nat.mod_eq_of_lt] <;> omega
    have hb' : (BitVec.ofNat 32 b).toInt = b := by
      rw [BitVec.toInt_eq_toNat_of_lt] <;> rw [BitVec.toNat_ofNat, Nat.mod_eq_of_lt] <;> omega
    rw [BitVec.slt_iff_toInt_lt, ha, hb']
    exact_mod_cast h'

/-- The least column number at which the masked row attains its greatest entry is the next listed column, whatever number
`e` from the row's length on stands for "not here". -/
theorem Masked.fold_min (hσ : Lists x σ) (hx : ∀ c, x c ≠ ⊥) {k : Fin n} (hw : Masked x σ k.val w) {e : ℕ}
    (hn : n ≤ e) (he : e < 2 ^ 31) :
    Finset.fold IntOp.minsi 2147483647#32 (fun c : Fin n => if w c = x (σ k) then BitVec.ofNat 32 c.val else BitVec.ofNat 32 e)
      Finset.univ = BitVec.ofNat 32 (σ k).val := by
  refine fold_eq_of_bound IntOp.minsi _ _ _ (σ k) (if_pos (hw.at_next hσ)) ?_ fun c => ?_
  · exact minsi_ofNat (b := 2147483647) (by have := (σ k).isLt; omega) (by norm_num)
  · split
    · rename_i h
      exact minsi_ofNat (hw.next_le hσ hx h) (by have := c.isLt; omega)
    · exact minsi_ofNat (by have := (σ k).isLt; omega) he

/-- Overwriting the next listed column masks one column more. -/
theorem Masked.next (hσ : Lists x σ) {k : Fin n} (hw : Masked x σ k.val w) {w' : Fin n → EReal}
    (h : ∀ c, w' c = if c = σ k then ⊥ else w c) : Masked x σ (k.val + 1) w' := fun c => by
  by_cases hc : c = σ k
  · exact .inl ⟨k, Nat.lt_succ_self _, hc.symm, by rw [h, if_pos hc]⟩
  · rw [h, if_neg hc]
    rcases hw c with ⟨j, hj, e, h'⟩ | ⟨j, hj, e, h'⟩
    · exact .inl ⟨j, Nat.lt_succ_of_lt hj, e, h'⟩
    · refine .inr ⟨j, Nat.succ_le_of_lt (lt_of_le_of_ne hj fun q => hc ?_), e, h'⟩
      rw [← e, Fin.ext q]

/-! ## The normalizer -/

/-- The ideal exponential is never negative. -/
theorem exp_nonneg (a : EReal) : 0 ≤ Ideal.exp a := by
  induction a with
  | bot => exact le_of_eq Ideal.exp_bot.symm
  | coe r => rw [Ideal.exp_coe]; exact_mod_cast (Real.exp_pos r).le
  | top => rw [Ideal.exp_top]; exact le_top

/-- The exponential of a real number less itself is one. -/
theorem exp_sub_self {a : EReal} (h : a ≠ ⊥) (h' : a ≠ ⊤) : Ideal.exp (a - a) = 1 := by
  lift a to ℝ using ⟨h', h⟩
  rw [← EReal.coe_sub, sub_self, Ideal.exp_coe, Real.exp_zero, EReal.coe_one]

/-- A sum of exponentials one of which is one is not zero. -/
theorem sum_exp_ne_zero {ι : Type} (s : Finset ι) (f : ι → EReal) {i : ι} (hs : i ∈ s) (hi : Ideal.exp (f i) = 1) :
    ∑ k ∈ s, Ideal.exp (f k) ≠ 0 := by
  have h := Finset.single_le_sum (f := fun k => Ideal.exp (f k)) (fun k _ => exp_nonneg _) hs
  rw [hi] at h
  intro e
  rw [e] at h
  exact absurd h (by norm_num)

/-- The word that a maximum over the row starts from denotes minus infinity. -/
theorem ofBits_minus_inf : Ideal.ofBits .f32 0xFF800000#32 = ⊥ := by simp [Ideal.ofBits, Ideal.ieee]

/-! ## What the router writes in one row -/

section row

variable (x : Fin (n + 1) → EReal) (σ : Fin (n + 1) → Fin (n + 1))

/-- The column listed at place `k`, places counted round past the row's end. -/
def pick (k : ℕ) : Fin (n + 1) := σ (Fin.ofNat (n + 1) k)

variable {x σ} in
/-- No listed entry exceeds the first. -/
theorem Lists.le_first (hσ : Lists x σ) (k : ℕ) : x (pick σ k) ≤ x (pick σ 0) := by
  unfold pick
  rcases eq_or_lt_of_le (Fin.zero_le (Fin.ofNat (n + 1) k)) with e | e
  · rw [← e]; rfl
  · exact hσ.down _ _ e

/-- The `k`-th listed entry's exponential, measured from the greatest entry. -/
def expo (k : ℕ) : EReal := Ideal.exp (x (pick σ k) - x (pick σ 0))

/-- The softmax of the first `m` listed entries, at the `k`-th. -/
def weight (m k : ℕ) : EReal := Ideal.div (expo x σ k) (∑ j ∈ Finset.range m, expo x σ j)

/-- The row of scores: the softmax weight of each of the first `m` listed columns at that column, zero elsewhere. -/
def scoreRow (m : ℕ) (c : ℕ) : EReal :=
  ScatterToDense.GS (fun k => BitVec.ofNat 32 (pick σ k).val) (weight x σ m) 0 c m

end row

end Cert.Router
-- ==== Proof.Rounds.lean ====
module

public import proofs.«01_k».proof.Proof.Gen.KernelIdeal.Value
public import proofs.«01_k».proof.Proof.Picks
public import Idealize.ShloMosaic.Lib.Pointwise
public import Idealize.ShloMosaic.Lib.IdealHost

/-! The kernel's block of 512 rows: its eight rounds of "greatest entry, first column there, overwrite" and the scores and
indices it stores, named once for a round of any number and read row by row. -/

@[expose] public section

set_option maxRecDepth 16384

open Idealize.ShloMosaic Cert.Router

noncomputable section

namespace Cert.KernelIdeal.Gen

/-! ## One round -/

/-- The column number of every entry of a block. -/
def cols : IVec S512x64 32 := iota .tc S512x64 32 [1] iota_S512x64_d1_w32

/-- The greatest entry of each row of a block. -/
def rowMax (w : FVec Ideal S512x64 .f32) : FVec Ideal S512x1 .f32 :=
  shapeCast S512x1 (multiReduction .maximumf [1] S512 w 0xFF800000#32 reduces_S512x64_S512 (.inl rfl) rfl) shapeCasts_S512_S512x1

/-- The first column at which each row of a block attains its greatest entry. -/
def rowPick (w : FVec Ideal S512x64 .f32) : IVec S512x1 32 :=
  shapeCast S512x1 (multiReductionI .minsi [1] S512
    (select (cmpf .oeq w (broadcastTo S512x64 (rowMax w) broadcasts_S512x1_S512x64)) cols (broadcast S512x64 64#32))
    2147483647#32 reduces_S512x64_S512 rfl) shapeCasts_S512_S512x1

/-- The block with each row's picked entry overwritten by minus infinity. -/
def mask (w : FVec Ideal S512x64 .f32) : FVec Ideal S512x64 .f32 :=
  select (cmpi .eq cols (broadcastTo S512x64 (rowPick w) broadcasts_S512x1_S512x64))
    (broadcast S512x64 (Scalar.ofBits .f32 0xFF800000#32)) w

section round

variable {x : Fin 64 → EReal} {σ : Fin 64 → Fin 64} {k : Fin 64} {w : FVec Ideal S512x64 .f32} {r : Fin 512}

/-- The row maximum of a block whose row has `k` columns overwritten is the entry at the next listed column. -/
theorem rowMax_at (hσ : Lists x σ) (hw : Masked x σ k.val fun c => w (ix2 r c)) :
    rowMax w (ix2 r (0 : Fin 1)) = x (σ k) := by
  pointwise [rowMax]
  rw [ofBits_minus_inf]
  exact hw.fold_max hσ

/-- The picked column of such a row is the next listed column. -/
theorem rowPick_at (hσ : Lists x σ) (hx : ∀ c, x c ≠ ⊥) (hw : Masked x σ k.val fun c => w (ix2 r c)) :
    rowPick w (ix2 r (0 : Fin 1)) = BitVec.ofNat 32 (σ k).val := by
  pointwise [rowPick, cols]
  rw [rowMax_at hσ hw]
  exact hw.fold_min hσ hx (e := 64) le_rfl (by norm_num)

/-- Two column words compared choose by whether the columns are the same. -/
theorem select_col {α : Type} (c d : Fin 64) (a b : α) :
    Scalar.select (IntOp.cmpi .eq (BitVec.ofNat 32 c.val) (BitVec.ofNat 32 d.val)) a b = if c.val = d.val then a else b := by
  rw [WordCmp.cmpi_eq_ofNat (by have := c.isLt; omega) (by have := d.isLt; omega), WordCmp.select_decide]

/-- Overwriting the picked column of such a row leaves a row with one column more overwritten. -/
theorem mask_at (hσ : Lists x σ) (hx : ∀ c, x c ≠ ⊥) (hw : Masked x σ k.val fun c => w (ix2 r c)) :
    Masked x σ (k.val + 1) fun c => mask w (ix2 r c) := by
  refine hw.next hσ fun c => ?_
  pointwise [mask, cols]
  rw [rowPick_at hσ hx hw, ofBits_minus_inf, select_col]
  exact if_congr Fin.val_inj rfl rfl

end round

/-! ## All rounds -/

/-- The block after `k` rounds. -/
def work (L : FVec Ideal S512x64 .f32) : ℕ → FVec Ideal S512x64 .f32
  | 0 => L
  | k + 1 => mask (work L k)

/-- Each row's exponential of round `k`'s maximum, measured from round 0's. -/
def blockExp (L : FVec Ideal S512x64 .f32) (k : ℕ) : FVec Ideal S512x1 .f32 :=
  exp (subf (rowMax (work L k)) (rowMax (work L 0)))

/-- Each row's sum of the exponentials of rounds 0 to `k`. -/
def blockSum (L : FVec Ideal S512x64 .f32) : ℕ → FVec Ideal S512x1 .f32
  | 0 => blockExp L 0
  | k + 1 => addf (blockSum L k) (blockExp L (k + 1))

/-- Each row's reciprocal of that sum over the eight rounds. -/
def blockRecip (L : FVec Ideal S512x64 .f32) : FVec Ideal S512x1 .f32 :=
  divf (broadcast S512x1 (Scalar.ofBits .f32 0x3F800000#32)) (blockSum L 7)

/-- The block of scores after the columns of the first `k` rounds are written. -/
def blockScores (L : FVec Ideal S512x64 .f32) : ℕ → FVec Ideal S512x64 .f32
  | 0 => broadcast S512x64 (Scalar.ofBits .f32 0x00000000#32)
  | k + 1 => select (cmpi .eq cols (broadcastTo S512x64 (rowPick (work L k)) broadcasts_S512x1_S512x64))
      (broadcastTo S512x64 (shapeCast S512x1 (mulf (blockExp L k) (blockRecip L)) shapeCasts_S512x1_S512x1)
        broadcasts_S512x1_S512x64) (blockScores L k)

/-- The block of indices: the eight rounds' picked columns side by side. -/
def blockIndices (L : FVec Ideal S512x64 .f32) : IVec S512x8 32 :=
  k0_pay2 (rowPick (work L 0)) (rowPick (work L 1)) (rowPick (work L 2)) (rowPick (work L 3)) (rowPick (work L 4))
    (rowPick (work L 5)) (rowPick (work L 6)) (rowPick (work L 7))

section rows

variable {σ : Fin 64 → Fin 64} {L : FVec Ideal S512x64 .f32} {r : Fin 512}

/-- After `k` rounds each row has its first `k` listed columns overwritten. -/
theorem work_at (hσ : Lists (fun c => L (ix2 r c)) σ) (hx : ∀ c, L (ix2 r c) ≠ ⊥) (k : ℕ) (hk : k < 64) :
    Masked (fun c => L (ix2 r c)) σ k fun c => work L k (ix2 r c) := by
  induction k with
  | zero => exact masked_zero hσ
  | succ k ih => exact mask_at (k := ⟨k, by omega⟩) hσ hx (ih (by omega))

/-- A place in the row counted round is itself. -/
theorem pick_of_lt (k : ℕ) (hk : k < 64) : pick σ k = σ ⟨k, hk⟩ :=
  congrArg σ (Fin.ext (Nat.mod_eq_of_lt hk))

/-- Round `k`'s maximum is the entry at the `k`-th listed column. -/
theorem max_at (hσ : Lists (fun c => L (ix2 r c)) σ) (hx : ∀ c, L (ix2 r c) ≠ ⊥) (k : ℕ) (hk : k < 64) :
    rowMax (work L k) (ix2 r (0 : Fin 1)) = L (ix2 r (pick σ k)) := by
  rw [pick_of_lt k hk]
  exact rowMax_at (k := ⟨k, hk⟩) hσ (work_at hσ hx k hk)

/-- Round `k` picks the `k`-th listed column. -/
theorem pick_at (hσ : Lists (fun c => L (ix2 r c)) σ) (hx : ∀ c, L (ix2 r c) ≠ ⊥) (k : ℕ) (hk : k < 64) :
    rowPick (work L k) (ix2 r (0 : Fin 1)) = BitVec.ofNat 32 (pick σ k).val := by
  rw [pick_of_lt k hk]
  exact rowPick_at (k := ⟨k, hk⟩) hσ hx (work_at hσ hx k hk)

/-- Round `k`'s exponential in a row. -/
theorem blockExp_at (hσ : Lists (fun c => L (ix2 r c)) σ) (hx : ∀ c, L (ix2 r c) ≠ ⊥) (k : ℕ) (hk : k < 64) :
    blockExp L k (ix2 r (0 : Fin 1)) = expo (fun c => L (ix2 r c)) σ k := by
  pointwise [blockExp]
  rw [max_at hσ hx k hk, max_at hσ hx 0 (by norm_num)]
  rfl

/-- The sum of the exponentials of rounds 0 to `k` in a row. -/
theorem blockSum_at (hσ : Lists (fun c => L (ix2 r c)) σ) (hx : ∀ c, L (ix2 r c) ≠ ⊥) (k : ℕ) (hk : k < 64) :
    blockSum L k (ix2 r (0 : Fin 1)) = ∑ j ∈ Finset.range (k + 1), expo (fun c => L (ix2 r c)) σ j := by
  induction k with
  | zero => rw [Finset.sum_range_one]; exact blockExp_at hσ hx 0 hk
  | succ k ih =>
    rw [Finset.sum_range_succ, ← ih (by omega), ← blockExp_at hσ hx (k + 1) hk]
    pointwise [blockSum]

/-- Where the row holds real numbers its sum of exponentials is not zero. -/
theorem sum_expo_ne_zero {x : Fin 64 → EReal} (hx : ∀ c, x c ≠ ⊥) (hx' : ∀ c, x c ≠ ⊤) :
    ∑ j ∈ Finset.range 8, expo x σ j ≠ 0 :=
  sum_exp_ne_zero _ _ (i := 0) (by simp) (exp_sub_self (hx _) (hx' _))

/-- An exponential times the reciprocal of the sum is the softmax weight. -/
theorem blockWeight_at (hσ : Lists (fun c => L (ix2 r c)) σ) (hx : ∀ c, L (ix2 r c) ≠ ⊥) (hx' : ∀ c, L (ix2 r c) ≠ ⊤)
    (k : ℕ) (hk : k < 64) :
    blockExp L k (ix2 r (0 : Fin 1)) * blockRecip L (ix2 r (0 : Fin 1)) = weight (fun c => L (ix2 r c)) σ 8 k := by
  have e : blockRecip L (ix2 r (0 : Fin 1)) = Ideal.div 1 (blockSum L 7 (ix2 r (0 : Fin 1))) := by
    pointwise [blockRecip]
  rw [e, blockExp_at hσ hx k hk, blockSum_at hσ hx 7 (by norm_num), Ideal.mul_one_div (sum_expo_ne_zero hx hx')]
  rfl

/-- The scores in a row after `k` rounds' columns are written. -/
theorem blockScores_at (hσ : Lists (fun c => L (ix2 r c)) σ) (hx : ∀ c, L (ix2 r c) ≠ ⊥) (hx' : ∀ c, L (ix2 r c) ≠ ⊤)
    (c : Fin 64) (k : ℕ) (hk : k ≤ 64) :
    blockScores L k (ix2 r c)
      = ScatterToDense.GS (fun k => BitVec.ofNat 32 (pick σ k).val) (weight (fun c => L (ix2 r c)) σ 8) 0 c.val k := by
  induction k with
  | zero =>
    pointwise [blockScores]
    rfl
  | succ k ih =>
    rw [ScatterToDense.GS_succ, ← ih (by omega), ← blockWeight_at hσ hx hx' k (by omega)]
    pointwise [blockScores, cols]
    rw [pick_at hσ hx k (by omega), select_col]
    rw [BitVec.toNat_ofNat, Nat.mod_eq_of_lt (by have := (pick σ k).isLt; omega)]

/-- The kernel's block of scores, row by row. -/
theorem scores_at (hσ : Lists (fun c => L (ix2 r c)) σ) (hx : ∀ c, L (ix2 r c) ≠ ⊥) (hx' : ∀ c, L (ix2 r c) ≠ ⊤)
    (c : Fin 64) : blockScores L 8 (ix2 r c) = scoreRow (fun c => L (ix2 r c)) σ 8 c.val :=
  blockScores_at hσ hx hx' c 8 (by norm_num)

/-- The kernel's block of indices, row by row. -/
theorem indices_at (hσ : Lists (fun c => L (ix2 r c)) σ) (hx : ∀ c, L (ix2 r c) ≠ ⊥) (k : Fin 8) :
    blockIndices L (ix2 r k) = BitVec.ofNat 32 (pick σ k.val).val := by
  rw [← pick_at hσ hx k.val (by omega)]
  pointwise [blockIndices, k0_pay2]
  fin_cases k <;> rfl

end rows

/-! ## The stored blocks -/

variable (x0 : Vec Ideal S512x4096 .f32) (x1 : Vec Ideal S4096x64 .f32) (x2 : Vec Ideal S1x64 .f32)

/-- The block of logits, as the kernel computes it from its three input blocks. -/
def blockLogits : FVec Ideal S512x64 .f32 := k0_pay3 (View.ld x0 r0_0) (View.ld x1 r0_1) (View.ld x2 r0_2)

/-- What the kernel stores in its block of scores. -/
theorem out_scores : out0_3 x0 x1 x2 = View.canon [⟨r0_3, blockScores (blockLogits x0 x1 x2) 8⟩] := rfl

/-- What the kernel stores in its block of indices. -/
theorem out_indices : out0_4 x0 x1 x2 = View.canon [⟨r0_4, blockIndices (blockLogits x0 x1 x2)⟩] := rfl

end Cert.KernelIdeal.Gen
-- ==== Proof.Reference.lean ====
module

public import proofs.«01_k».proof.Proof.Gen.ReferenceIdeal.Run
public import proofs.«01_k».proof.Proof.Picks
public import Idealize.ShloMosaic.Lib.Pointwise
public import Idealize.ShloMosaic.Lib.ScatterToDense.RefScatter

/-! The reference's top eight, softmax and scatter, read row by row. -/

@[expose] public section

set_option maxRecDepth 16384

open Idealize.ShloMosaic Cert.Router

noncomputable section

namespace Cert.ReferenceIdeal.Gen

/-! ## The top eight -/

/-- The reference's top eight of a table of logits: the values and their columns. -/
def top (L : FVec Ideal S8192x64 .f32) : FVec Ideal S8192x8 .f32 × IVec S8192x8 32 :=
  Host.topK S8192x8 1 (FloatOps.cmpfTotal .gt) L sliceFits_S8192x64_S8192x8

/-- The order in which a stable sort, greatest first, lists the columns of a row of logits. -/
def order (L : FVec Ideal S8192x64 .f32) (r : Fin 8192) : Fin 64 → Fin 64 :=
  sortedFrom fun k k' => decide (L (ix2 r k') < L (ix2 r k))

/-- It lists the row. -/
theorem lists_order (L : FVec Ideal S8192x64 .f32) (r : Fin 8192) : Lists (fun c => L (ix2 r c)) (order L r) :=
  lists_sortedFrom _

/-- "Greater" as the reference's sort asks it is the order of the extended reals. -/
theorem gt_eq (a b : EReal) : (FloatOps.cmpfTotal (F := Ideal) (φ := .f32) .gt a b == 1#1) = decide (b < a) := by
  rw [Ideal.cmpfTotal_def]
  show (BitVec.ofBool (decide (b < a)) == 1#1) = _
  cases decide (b < a) <;> rfl

/-- Moving along the columns from an entry of a row stays in the row. -/
theorem along_col (r : Fin 8192) (c k : Fin 64) : (ix2 r c : S8192x64.Idx).along 1 k = ix2 r k := by
  funext a
  fin_cases a <;> rfl

/-- Entry `c` of a row after the reference's sort is the entry the order lists there, and beside it stands its column. -/
theorem sort_at (L : FVec Ideal S8192x64 .f32) (y : IVec S8192x64 32) (r : Fin 8192) (c : Fin 64) :
    (Host.sort2 S8192x64 1 (fun l r => FloatOps.cmpfTotal (F := Ideal) (φ := .f32) .gt l.1 r.1) L y).1 (ix2 r c)
        = L (ix2 r (order L r c))
      ∧ (Host.sort2 S8192x64 1 (fun l r => FloatOps.cmpfTotal (F := Ideal) (φ := .f32) .gt l.1 r.1) L y).2 (ix2 r c)
        = y (ix2 r (order L r c)) := by
  have e : sortedFrom (fun k k' : Fin 64 => FloatOps.cmpfTotal (F := Ideal) (φ := .f32) .gt
      (L ((ix2 r c : S8192x64.Idx).along 1 k)) (L ((ix2 r c : S8192x64.Idx).along 1 k')) == 1#1) = order L r := by
    unfold order
    congr 1
    funext k k'
    rw [along_col, along_col]
    exact gt_eq _ _
  rw [← along_col r c (order L r c), ← e]
  exact ⟨rfl, rfl⟩

/-- The reference's top eight of a row: the first eight listed entries and their columns. -/
theorem top_at (L : FVec Ideal S8192x64 .f32) (r : Fin 8192) (k : Fin 8) :
    (top L).1 (ix2 r k) = L (ix2 r (pick (order L r) k.val))
      ∧ (top L).2 (ix2 r k) = BitVec.ofNat 32 (pick (order L r) k.val).val := by
  have hk : pick (order L r) k.val = order L r ⟨k.val, by omega⟩ :=
    congrArg (order L r) (Fin.ext (Nat.mod_eq_of_lt (by omega)))
  rw [hk]
  pointwise [top, Host.topK]
  exact sort_at L _ r _

/-! ## Softmax and scatter -/

/-- One number a row, written across the row's eight places. -/
def across (u : FVec Ideal S8192 .f32) : FVec Ideal S8192x8 .f32 :=
  broadcastInDim S8192x8 ![0, 1] bcast_S8192x1_S8192x8_0_1 (broadcastInDim S8192x1 ![0] bcast_S8192_S8192x1_0 u)

/-- The greatest of each row's eight values. -/
def greatest (v : FVec Ideal S8192x8 .f32) : FVec Ideal S8192 .f32 :=
  maximumf (broadcastInDim S8192 ![] bcast_S_S8192 (constant S_ .f32 0xFF800000#32))
    (Host.reduce FloatOps.maximumf v (constant S_ .f32 0xFF800000#32) reducesTo_S8192x8_S8192_d1 h_S_)

/-- The exponentials of a row's values, measured from the greatest. -/
def exps (v : FVec Ideal S8192x8 .f32) : FVec Ideal S8192x8 .f32 := Host.exp (subf v (across (greatest v)))

/-- The reference's softmax of a table of eight values a row. -/
def softmax (v : FVec Ideal S8192x8 .f32) : FVec Ideal S8192x8 .f32 :=
  Host.divf (exps v) (across (Host.reduceAdd (exps v) (constant S_ .f32 0x00000000#32) reducesTo_S8192x8_S8192_d1 h_S_))

/-- The row numbers, as the reference hands them to its scatter. -/
def rowWords : IVec S8192x8x1 32 :=
  broadcastInDim S8192x8x1 ![0, 1] bcast_S8192x8_S8192x8x1_0_1 (broadcastInDim S8192x8 ![0, 1] bcast_S8192x1_S8192x8_0_1
    (select (cmpi .slt (broadcastInDim S8192x1 ![0] bcast_S8192_S8192x1_0 (iotaInDim S8192 32 0))
        (broadcastInDim S8192x1 ![] bcast_S_S8192x1 (constantI S_ 32 0#32)))
      (addi (broadcastInDim S8192x1 ![0] bcast_S8192_S8192x1_0 (iotaInDim S8192 32 0))
        (broadcastInDim S8192x1 ![] bcast_S_S8192x1 (constantI S_ 32 8192#32)))
      (broadcastInDim S8192x1 ![0] bcast_S8192_S8192x1_0 (iotaInDim S8192 32 0))))

/-- The columns, as the reference hands them to its scatter. -/
def colWords (i : IVec S8192x8 32) : IVec S8192x8x1 32 :=
  broadcastInDim S8192x8x1 ![0, 1] bcast_S8192x8_S8192x8x1_0_1
    (select (cmpi .slt i (broadcastInDim S8192x8 ![] bcast_S_S8192x8 (constantI S_ 32 0#32)))
      (addi i (broadcastInDim S8192x8 ![] bcast_S_S8192x8 (constantI S_ 32 64#32))) i)

/-- The pairs (row, column) of the scatter. -/
def pairWords (i : IVec S8192x8 32) : IVec S8192x8x2 32 :=
  concatenate S8192x8x2 2 [⟨S8192x8x1, rowWords⟩, ⟨S8192x8x1, colWords i⟩] concatenates_S8192x8x1_S8192x8x1_S8192x8x2_d2

/-- The reference's scores of a table of logits. -/
def scores (L : FVec Ideal S8192x64 .f32) : FVec Ideal S8192x64 .f32 :=
  Host.scatter scatter_S8192x64_S8192x8x2_S8192x8_n_01_01_2 (fun _ b => b)
    (broadcastInDim S8192x64 ![] bcast_S_S8192x64 (constant S_ .f32 0x00000000#32)) (pairWords (top L).2) (softmax (top L).1)

/-- The reference's logits of its three arguments. -/
def logits (a0 : FVec Ideal S2x4096x4096 .f32) (a1 : FVec Ideal S4096x64 .f32) (a2 : FVec Ideal S64 .f32) : FVec Ideal S8192x64 .f32 :=
  addf (Host.dotGeneral dot_S8192x4096_S4096x64_S8192x64_1_0_0_1_n_n none
      (shapeCast _ a0 shapeCasts_S2x4096x4096_S8192x4096) a1)
    (broadcastInDim S8192x64 ![0, 1] bcast_S1x64_S8192x64_0_1 (broadcastInDim S1x64 ![1] bcast_S64_S1x64_1 a2))

/-- The greatest of a row's eight values is the first listed entry. -/
theorem greatest_at (L : FVec Ideal S8192x64 .f32) (r : Fin 8192) :
    greatest (top L).1 (ix1 r) = L (ix2 r (pick (order L r) 0)) := by
  pointwise [greatest]
  rw [ofBits_minus_inf, max_bot_left]
  refine fold_eq_of_bound max ⊥ _ _ 0 (top_at L r 0).1 (max_bot_right _) fun k => max_eq_left ?_
  rw [(top_at L r k).1]
  exact (lists_order L r).le_first k.val

/-- A row's exponentials. -/
theorem exps_at (L : FVec Ideal S8192x64 .f32) (r : Fin 8192) (k : Fin 8) :
    exps (top L).1 (ix2 r k) = expo (fun c => L (ix2 r c)) (order L r) k.val := by
  pointwise [exps, across]
  rw [greatest_at, (top_at L r k).1]
  rfl

/-- A row's softmax weights. -/
theorem softmax_at (L : FVec Ideal S8192x64 .f32) (r : Fin 8192) (k : Fin 8) :
    softmax (top L).1 (ix2 r k) = weight (fun c => L (ix2 r c)) (order L r) 8 k.val := by
  pointwise [softmax, across]
  simp only [exps_at]
  unfold weight
  rw [Finset.sum_range]

/-- The row word of every pair is the row's number. -/
theorem rowWords_at (i : IVec S8192x8 32) (r : Fin 8192) (k : Fin 8) : pairWords i (ix3 r k (0 : Fin 2)) = BitVec.ofNat 32 r.val := by
  pointwise [pairWords, rowWords]
  exact Routing.wrap_of_lt _ _ (by rw [BitVec.toNat_ofNat]; have := r.isLt; omega)

/-- The column word of every pair is the column handed in, where that is not negative. -/
theorem colWords_at (i : IVec S8192x8 32) (r : Fin 8192) (k : Fin 8)
    (h : (i (ix2 r k)).toNat < 2 ^ 31) : pairWords i (ix3 r k (1 : Fin 2)) = i (ix2 r k) := by
  pointwise [pairWords, colWords]
  exact Routing.wrap_of_lt _ _ h

/-- The reference's scores, row by row. -/
theorem scores_at (L : FVec Ideal S8192x64 .f32) (r : Fin 8192) (c : Fin 64) :
    scores L (ix2 r c) = scoreRow (fun c => L (ix2 r c)) (order L r) 8 c.val := by
  have hword : ∀ (i : Fin 8192) (k : Fin 8), (top L).2 (ix2 i k) = BitVec.ofNat 32 (pick (order L i) k.val).val :=
    fun i k => (top_at L i k).2
  unfold scores scoreRow
  rw [ix2_eq_valueIdx]
  refine (ScatterToDense.scatter_eq_GS (T := 8192) (C := 64) (K := 8) scatter_S8192x64_S8192x8x2_S8192x8_n_01_01_2 rfl rfl rfl
    (by norm_num) (by norm_num) _ _ _ (fun i k => BitVec.ofNat 32 (pick (order L i) k).val)
    (fun i => weight (fun c => L (ix2 i c)) (order L i) 8) (fun i k => ?_) (fun i k => ?_) (fun i k => ?_) r c).trans ?_
  · rw [← ix3_eq_valueIdx]
    exact rowWords_at _ i k
  · rw [← ix3_eq_valueIdx, colWords_at _ i k (by
      rw [hword, BitVec.toNat_ofNat]; have := (pick (order L i) k.val).isLt; omega)]
    exact hword i k
  · rw [← ix2_eq_valueIdx]
    exact softmax_at L i k
  · congr 1
    rw [← ix2_eq_valueIdx]
    pointwise

end Cert.ReferenceIdeal.Gen

namespace Cert.ReferenceIdeal.Value

open Cert.ReferenceIdeal.Gen

/-- What the reference leaves in its result of scores. -/
theorem res_scores (m : (ℓ : Loc nD τ sig) → Buf (Elt Ideal) ℓ) (c : Dev nD) :
    res_main_v33 m c = scores (logits (m ((c.tc : Thread nD τ).loc main_arg0)) (m ((c.tc : Thread nD τ).loc main_arg1))
      (m ((c.tc : Thread nD τ).loc main_arg2))) := rfl

end Cert.ReferenceIdeal.Value
-- ==== Proof.Blocks.lean ====
module

public import proofs.«01_k».proof.Proof.Rounds
public import proofs.«01_k».proof.Proof.Reference
public import proofs.«01_k».proof.Pre_finite
public import Idealize.ShloMosaic.Lib.ReduceAll
public import Idealize.ShloMosaic.Lib.Claim
public import Idealize.ShloMosaic.Lib.Pipeline.ValueKit

/-! A grid point's block of logits is 512 consecutive rows of the reference's logits. -/

@[expose] public section

set_option maxRecDepth 16384

open Idealize.ShloMosaic Idealize.ShloMosaic.TcCoe Cert.Router

noncomputable section

namespace Cert.Router

/-- A value that is neither infinity. -/
def Finite (x : EReal) : Prop := x ≠ ⊥ ∧ x ≠ ⊤

/-- A finite value is a real number. -/
theorem Finite.exists_real {x : EReal} (h : Finite x) : ∃ y : ℝ, x = y := ⟨x.toReal, (EReal.coe_toReal h.2 h.1).symm⟩

/-- A real number is finite. -/
theorem finite_coe (y : ℝ) : Finite (y : EReal) := ⟨EReal.coe_ne_bot y, EReal.coe_ne_top y⟩

/-- A sum of two finite values is finite. -/
theorem Finite.add {x y : EReal} (hx : Finite x) (hy : Finite y) : Finite (x + y) := by
  obtain ⟨a, rfl⟩ := hx.exists_real
  obtain ⟨b, rfl⟩ := hy.exists_real
  exact EReal.coe_add a b ▸ finite_coe (a + b)

/-- A product of two finite values is finite. -/
theorem Finite.mul {x y : EReal} (hx : Finite x) (hy : Finite y) : Finite (x * y) := by
  obtain ⟨a, rfl⟩ := hx.exists_real
  obtain ⟨b, rfl⟩ := hy.exists_real
  exact EReal.coe_mul a b ▸ finite_coe (a * b)

/-- A finite sum of finite values is finite. -/
theorem finite_sum {ι : Type} (s : Finset ι) (f : ι → EReal) (h : ∀ i, Finite (f i)) : Finite (∑ i ∈ s, f i) := by
  classical
  induction s using Finset.induction_on with
  | empty => exact finite_coe 0
  | insert i s hi ih => rw [Finset.sum_insert hi]; exact (h i).add ih

/-- A value whose absolute value is printed as less than plus infinity is finite. -/
theorem finite_of_abs_lt {x : EReal} (h : Ideal.cmp .olt (max x (-x)) (Ideal.ofBits .f32 0x7F800000#32) = 1#1) : Finite x := by
  have ht : Ideal.ofBits .f32 0x7F800000#32 = ⊤ := by simp [Ideal.ofBits, Ideal.ieee]
  rw [ht] at h
  have h' : max x (-x) < ⊤ := by
    by_contra hn
    simp only [Ideal.cmp, hn, decide_false] at h
    exact absurd h (by decide)
  rw [max_lt_iff] at h'
  refine ⟨fun e => ?_, h'.1.ne⟩
  rw [e] at h'
  exact absurd h'.2 (by simp)

end Cert.Router

namespace Cert.Pre_finite

/-- A scalar has one index. -/
instance : Subsingleton S_.Idx := ⟨fun i j => funext fun a => a.elim0⟩

/-- Where the printed precondition is 1, every entry of the three arguments is finite. -/
theorem finite_args [Facts] (a0 : FVec Ideal S2x4096x4096 .f32) (a1 : FVec Ideal S4096x64 .f32) (a2 : FVec Ideal S64 .f32)
    (h : fn a0 a1 a2 = fun _ => 1#1) : (∀ i, Finite (a0 i)) ∧ (∀ i, Finite (a1 i)) ∧ (∀ i, Finite (a2 i)) := by
  have e := congrFun h (fun a => a.elim0)
  obtain ⟨e01, e2⟩ := IntOp.andi_eq_one.1 e
  obtain ⟨e0, e1⟩ := IntOp.andi_eq_one.1 e01
  exact ⟨fun i => finite_of_abs_lt (Host.reduce_andi_all _ _ _ _ _ e0 i),
    fun i => finite_of_abs_lt (Host.reduce_andi_all _ _ _ _ _ e1 i),
    fun i => finite_of_abs_lt (Host.reduce_andi_all _ _ _ _ _ e2 i)⟩

end Cert.Pre_finite

namespace Cert.ReferenceIdeal.Gen

/-- The logits of finite arguments are finite. -/
theorem finite_logits (a0 : FVec Ideal S2x4096x4096 .f32) (a1 : FVec Ideal S4096x64 .f32) (a2 : FVec Ideal S64 .f32)
    (h : (∀ i, Finite (a0 i)) ∧ (∀ i, Finite (a1 i)) ∧ (∀ i, Finite (a2 i))) (R : Fin 8192) (k : Fin 64) :
    Finite (logits a0 a1 a2 (ix2 R k)) := by
  pointwise [logits]
  exact (finite_sum _ _ fun i => (h.1 _).mul (h.2.1 _)).add (h.2.2 _)

end Cert.ReferenceIdeal.Gen

namespace Cert.KernelIdeal.Gen

/-- Which block each window takes at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] := (by decide +kernel : ∀ t : Fin grid0.N, _)

variable (m : (ℓ : Loc nD τ sig) → Buf (Elt Ideal) ℓ) (c : Dev nD)

/-- The reference's logits of the kernel's arguments. -/
abbrev table : FVec Ideal S8192x64 .f32 :=
  Cert.ReferenceIdeal.Gen.logits (m ((c : Thread nD τ).loc main_arg0)) (m ((c : Thread nD τ).loc main_arg1))
    (m ((c : Thread nD τ).loc main_arg2))

/-- Row `r` of the block at point `t` is row `512 t + r` of the table of logits. -/
theorem point (t : Fin cfg0.N) (r : Fin 512) (k : Fin 64) (R : Fin 8192) (hR : R.val = t.val * 512 + r.val) :
    blockLogits (iblk m c 0 t) (iblk m c 1 t) (iblk m c 2 t) (ix2 r k) = table m c (ix2 R k) := by
  unfold table
  pointwise [blockLogits, k0_pay3, Cert.ReferenceIdeal.Gen.logits]
  blk_point [iblk, V, idx t]

/-- The same for a whole row. -/
theorem row (t : Fin cfg0.N) (r : Fin 512) (R : Fin 8192) (hR : R.val = t.val * 512 + r.val) :
    (fun k => blockLogits (iblk m c 0 t) (iblk m c 1 t) (iblk m c 2 t) (ix2 r k)) = fun k => table m c (ix2 R k) :=
  funext fun k => point m c t r k R hR

open Cert.ReferenceIdeal.Gen

/-- The table's columns of a row are listed in descending order of the block's row, which is the same row. -/
theorem lists_row (t : Fin cfg0.N) (r : Fin 512) (R : Fin 8192) (hR : R.val = t.val * 512 + r.val) :
    Lists (fun k => blockLogits (iblk m c 0 t) (iblk m c 1 t) (iblk m c 2 t) (ix2 r k)) (order (table m c) R) := by
  rw [row m c t r R hR]
  exact lists_order (table m c) R

/-- An entry of the block of scores is the reference's score at its place in the table. -/
theorem point3 (h : ∀ R k, Finite (table m c (ix2 R k))) (t : Fin cfg0.N) (r : Fin 512) (k : Fin 64) (R : Fin 8192)
    (hR : R.val = t.val * 512 + r.val) :
    blockScores (blockLogits (iblk m c 0 t) (iblk m c 1 t) (iblk m c 2 t)) 8 (ix2 r k) = scores (table m c) (ix2 R k) := by
  rw [scores_at (lists_row m c t r R hR) (fun j => by rw [point m c t r j R hR]; exact (h R j).1)
    (fun j => by rw [point m c t r j R hR]; exact (h R j).2), row m c t r R hR]
  exact (Cert.ReferenceIdeal.Gen.scores_at (table m c) R k).symm

/-- An entry of the block of indices is the reference's column at its place in the table. -/
theorem point4 (h : ∀ R k, Finite (table m c (ix2 R k))) (t : Fin cfg0.N) (r : Fin 512) (k : Fin 8) (R : Fin 8192)
    (hR : R.val = t.val * 512 + r.val) :
    blockIndices (blockLogits (iblk m c 0 t) (iblk m c 1 t) (iblk m c 2 t)) (ix2 r k) = (top (table m c)).2 (ix2 R k) := by
  rw [indices_at (lists_row m c t r R hR) (fun j => by rw [point m c t r j R hR]; exact (h R j).1)]
  exact ((top_at (table m c) R k).2).symm

/-- Every index of a table is a row and a column. -/
theorem at_ix2 {a b : ℕ} (y : Shape.Idx ⟨2, ![a, b]⟩) : ∃ r k, y = ix2 r k :=
  ⟨y 0, y 1, funext fun i => by fin_cases i <;> rfl⟩

/-- The row of the table that row `r` of the block at point `t` is. -/
def place (t : Fin cfg0.N) (r : Fin 512) : Fin 8192 := ⟨t.val * 512 + r.val, by
  have : t.val < 16 := t.isLt.trans_eq (by decide +kernel)
  omega⟩

/-- After the run the first result is the reference's scores. -/
theorem final3 (h : ∀ R k, Finite (table m c (ix2 R k))) : (dats m 0 c).arrAt 3 cfg0.N = scores (table m c) := by
  refine (dats m 0 c).arrAt_eq_of_covers 3 _ (by decide +kernel) fun t _ y => ?_
  blk_simp
  rw [after0_3, out_scores]
  frame_out
  have e : ∀ r k, _ = scores (table m c) (ix2 (place t r) k) := fun r k => point3 m c h t r k (place t r) rfl
  generalize blockScores (blockLogits (iblk m c 0 t) (iblk m c 1 t) (iblk m c 2 t)) 8 = B at e ⊢
  generalize scores (table m c) = T at e ⊢
  obtain ⟨r, k, rfl⟩ := at_ix2 y
  rw [e]
  blk_ext [idx t, place]

/-- After the run the second result is the reference's columns of the top eight. -/
theorem final4 (h : ∀ R k, Finite (table m c (ix2 R k))) : (dats m 0 c).arrAt 4 cfg0.N = (top (table m c)).2 := by
  refine (dats m 0 c).arrAt_eq_of_covers 4 _ (by decide +kernel) fun t _ y => ?_
  blk_simp
  rw [after0_4, out_indices]
  frame_out
  have e : ∀ r k, _ = (top (table m c)).2 (ix2 (place t r) k) := fun r k => point4 m c h t r k (place t r) rfl
  generalize blockIndices (blockLogits (iblk m c 0 t) (iblk m c 1 t) (iblk m c 2 t)) = B at e ⊢
  generalize (top (table m c)).2 = T at e ⊢
  obtain ⟨r, k, rfl⟩ := at_ix2 y
  rw [e]
  blk_ext [idx t, place]

end Cert.KernelIdeal.Gen
-- ==== Proof.lean ====
/- The certificate: the arguments are kept and the counters end at zero in every program, and over the reals the kernel's
   two results are the reference's. The router's mathematics is in Proof/Picks, Proof/Rounds and Proof/Reference, the passage
   from blocks to arrays in Proof/Blocks. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Blocks
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference keeps its arguments, and it has no counters. -/
theorem kept (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
          r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0 :=
  (θ_run _ _ _).mono (fun r h => ⟨fun c => (h c).2.2, sem_eq_zero_of_no_sems (by decide) r.2⟩) (Cert.ReferenceIdeal.Value.run m g)

/-- Where the arguments are finite, every logit is. -/
theorem finite_table (m : (ℓ : Loc Cert.KernelIdeal.nD Cert.KernelIdeal.τ Cert.KernelIdeal.sig) → Buf (Elt Ideal) ℓ)
    (h : Cert.Pre_KernelIdeal_finite m) (c : Dev Cert.KernelIdeal.nD) (R : Fin 8192) (k : Fin 64) :
    Cert.Router.Finite (Cert.KernelIdeal.Gen.table m c (ix2 R k)) :=
  Cert.ReferenceIdeal.Gen.finite_logits _ _ _ (Cert.Pre_finite.finite_args _ _ _ (h c)) R k

open Cert.ReferenceIdeal.Gen Cert.KernelIdeal.Gen in
/-- From finite arguments that agree, the kernel and the reference end with the same scores and the same columns. -/
theorem algebraic : Cert.algebraic_KernelIdeal_ReferenceIdeal_pre_finite := by
  intro m g m' g' hpre hagree
  have hf := finite_table m hpre
  have ht : ∀ c : Dev Cert.KernelIdeal.nD, logits (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = table m c := fun c => by
    rw [(hagree c).1, (hagree c).2.1, (hagree c).2.2]
  refine ⟨fun c => scores (table m c), fun c => (top (table m c)).2, ?_, ?_⟩
  · exact (θ_run _ _ _).mono (fun r h c => ⟨(h c).1.trans (final3 m c (hf c)), (h c).2.1.trans (final4 m c (hf c)), (h c).2.2⟩)
      (Cert.KernelIdeal.Value.run_blocks m g)
  · exact (θ_run _ _ _).mono (fun r h c => ⟨((h c).1.trans (Cert.ReferenceIdeal.Value.res_scores m' c)).trans (congrArg scores (ht c)),
      (h c).2.1.trans (congrArg (fun L => (top L).2) (ht c)), (h c).2.2⟩) (Cert.ReferenceIdeal.Value.run m' g')

/-- Everything claimed. -/
theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  fun m g _ => kept m g, fun m g _ => kept m g, trivial, algebraic⟩

end Cert.Proof

end
